-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x512 : Shape := ⟨3, ![8, 512, 512]⟩
abbrev S8x512 : Shape := ⟨2, ![8, 512]⟩
abbrev S8x1x512 : Shape := ⟨3, ![8, 1, 512]⟩
abbrev S4x1x512 : Shape := ⟨3, ![4, 1, 512]⟩
abbrev S4x512x512 : Shape := ⟨3, ![4, 512, 512]⟩
abbrev S512x512 : Shape := ⟨2, ![512, 512]⟩
abbrev S1x1x512 : Shape := ⟨3, ![1, 1, 512]⟩
abbrev S1x512 : Shape := ⟨2, ![1, 512]⟩
abbrev S1x1 : Shape := ⟨2, ![1, 1]⟩
abbrev S512 : Shape := ⟨1, ![512]⟩
abbrev S512x1 : Shape := ⟨2, ![512, 1]⟩
abbrev S1x512x512 : Shape := ⟨3, ![1, 512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8x512x512, .f32⟩
  | .hbm, ⟨1, _⟩ => ⟨S8x512, .i32⟩
  | .hbm, ⟨2, _⟩ => ⟨S8x1x512, .i32⟩
  | .hbm, ⟨3, _⟩ => ⟨S8x512x512, .f32⟩
  | .local _ .vmem, ⟨0, _⟩ => ⟨S4x1x512, .i32⟩
  | .local _ .vmem, ⟨1, _⟩ => ⟨S4x1x512, .i32⟩
  | .local _ .vmem, ⟨2, _⟩ => ⟨S4x512x512, .f32⟩
  | .local _ .vmem, ⟨3, _⟩ => ⟨S4x512x512, .f32⟩
  | .local _ .vmem, ⟨4, _⟩ => ⟨S4x512x512, .f32⟩
  | .local _ .vmem, ⟨5, _⟩ => ⟨S4x512x512, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x512x512 : Shape := ⟨3, ![8, 512, 512]⟩
abbrev S8x512 : Shape := ⟨2, ![8, 512]⟩
abbrev S_ : Shape := ⟨0, ![]⟩
abbrev S8x1 : Shape := ⟨2, ![8, 1]⟩
abbrev S512 : Shape := ⟨1, ![512]⟩
abbrev S1x512x1 : Shape := ⟨3, ![1, 512, 1]⟩
abbrev S8x1x512 : Shape := ⟨3, ![8, 1, 512]⟩
abbrev S8x512x1 : Shape := ⟨3, ![8, 512, 1]⟩

abbrev nBuf : Space → Nat
  | .hbm => 176
  | .vmem => 0
  | .smem => 0
  | _ => 0

abbrev hbmTy0_0 (i : Nat) : BufTy := match i % 128 with
  | 0 => ⟨S8x512x512, .f32⟩
  | 1 => ⟨S8x512, .i32⟩
  | 2 => ⟨S8x512, .f32⟩
  | 3 => ⟨S_, .f32⟩
  | 4 => ⟨S_, .f32⟩
  | 5 => ⟨S8x512, .f32⟩
  | 6 => ⟨S8x1, .f32⟩
  | 7 => ⟨S_, .f32⟩
  | 8 => ⟨S8x1, .f32⟩
  | 9 => ⟨S8x1, .f32⟩
  | 10 => ⟨S_, .f32⟩
  | 11 => ⟨S8x512, .f32⟩
  | 12 => ⟨S8x512, .f32⟩
  | 13 => ⟨S8x512, .f32⟩
  | 14 => ⟨S8x512, .f32⟩
  | 15 => ⟨S8x512, .f32⟩
  | 16 => ⟨S_, .f32⟩
  | 17 => ⟨S8x512, .f32⟩
  | 18 => ⟨S8x512, .f32⟩
  | 19 => ⟨S512, .f32⟩
  | 20 => ⟨S_, .f32⟩
  | 21 => ⟨S512, .f32⟩
  | 22 => ⟨S512, .f32⟩
  | 23 => ⟨S1x512x1, .f32⟩
  | 24 => ⟨S8x1x512, .f32⟩
  | 25 => ⟨S8x512x512, .f32⟩
  | 26 => ⟨S8x512x512, .f32⟩
  | 27 => ⟨S8x512x512, .f32⟩
  | 28 => ⟨S8x512x512, .f32⟩
  | 29 => ⟨S8x512x512, .f32⟩
  | 30 => ⟨S_, .f32⟩
  | 31 => ⟨S8x512x512, .f32⟩
  | 32 => ⟨S8x512x512, .f32⟩
  | 33 => ⟨S_, .f32⟩
  | 34 => ⟨S8x512, .f32⟩
  | 35 => ⟨S_, .f32⟩
  | 36 => ⟨S8x512, .f32⟩
  | 37 => ⟨S8x512, .f32⟩
  | 38 => ⟨S8x512x1, .f32⟩
  | 39 => ⟨S8x512x512, .f32⟩
  | 40 => ⟨S8x512x512, .f32⟩
  | 41 => ⟨S8x512x512, .f32⟩
  | 42 => ⟨S_, .f32⟩
  | 43 => ⟨S8x512, .f32⟩
  | 44 => ⟨S8x512x1, .f32⟩
  | 45 => ⟨S8x512x512, .f32⟩
  | 46 => ⟨S8x512x512, .f32⟩
  | 47 => ⟨S_, .f32⟩
  | 48 => ⟨S8x512, .f32⟩
  | 49 => ⟨S8x1x512, .f32⟩
  | 50 => ⟨S_, .f32⟩
  | 51 => ⟨S8x1x512, .f32⟩
  | 52 => ⟨S8x1x512, .f32⟩
  | 53 => ⟨S8x512x512, .f32⟩
  | 54 => ⟨S8x512x512, .f32⟩
  | 55 => ⟨S_, .f32⟩
  | 56 => ⟨S8x512, .f32⟩
  | 57 => ⟨S8x512x1, .f32⟩
  | 58 => ⟨S_, .f32⟩
  | 59 => ⟨S8x512x1, .f32⟩
  | 60 => ⟨S8x512x1, .f32⟩
  | 61 => ⟨S8x512x512, .f32⟩
  | 62 => ⟨S8x512x512, .f32⟩
  | 63 => ⟨S_, .f32⟩
  | 64 => ⟨S8x512, .f32⟩
  | 65 => ⟨S8x1x512, .f32⟩
  | 66 => ⟨S_, .f32⟩
  | 67 => ⟨S8x1x512, .f32⟩
  | 68 => ⟨S8x1x512, .f32⟩
  | 69 => ⟨S8x512x512, .f32⟩
  | 70 => ⟨S8x512x512, .f32⟩
  | 71 => ⟨S_, .f32⟩
  | 72 => ⟨S8x512, .f32⟩
  | 73 => ⟨S8x512x1, .f32⟩
  | 74 => ⟨S_, .f32⟩
  | 75 => ⟨S8x512x1, .f32⟩
  | 76 => ⟨S8x512x1, .f32⟩
  | 77 => ⟨S8x512x512, .f32⟩
  | 78 => ⟨S8x512x512, .f32⟩
  | 79 => ⟨S_, .f32⟩
  | 80 => ⟨S8x512, .f32⟩
  | 81 => ⟨S8x1x512, .f32⟩
  | 82 => ⟨S_, .f32⟩
  | 83 => ⟨S8x1x512, .f32⟩
  | 84 => ⟨S8x1x512, .f32⟩
  | 85 => ⟨S8x512x512, .f32⟩
  | 86 => ⟨S8x512x512, .f32⟩
  | 87 => ⟨S_, .f32⟩
  | 88 => ⟨S8x512, .f32⟩
  | 89 => ⟨S8x512x1, .f32⟩
  | 90 => ⟨S_, .f32⟩
  | 91 => ⟨S8x512x1, .f32⟩
  | 92 => ⟨S8x512x1, .f32⟩
  | 93 => ⟨S8x512x512, .f32⟩
  | 94 => ⟨S8x512x512, .f32⟩
  | 95 => ⟨S_, .f32⟩
  | 96 => ⟨S8x512, .f32⟩
  | 97 => ⟨S8x1x512, .f32⟩
  | 98 => ⟨S_, .f32⟩
  | 99 => ⟨S8x1x512, .f32⟩
  | 100 => ⟨S8x1x512, .f32⟩
  | 101 => ⟨S8x512x512, .f32⟩
  | 102 => ⟨S8x512x512, .f32⟩
  | 103 => ⟨S_, .f32⟩
  | 104 => ⟨S8x512, .f32⟩
  | 105 => ⟨S8x512x1, .f32⟩
  | 106 => ⟨S_, .f32⟩
  | 107 => ⟨S8x512x1, .f32⟩
  | 108 => ⟨S8x512x1, .f32⟩
  | 109 => ⟨S8x512x512, .f32⟩
  | 110 => ⟨S8x512x512, .f32⟩
  | 111 => ⟨S_, .f32⟩
  | 112 => ⟨S8x512, .f32⟩
  | 113 => ⟨S8x1x512, .f32⟩
  | 114 => ⟨S_, .f32⟩
  | 115 => ⟨S8x1x512, .f32⟩
  | 116 => ⟨S8x1x512, .f32⟩
  | 117 => ⟨S8x512x512, .f32⟩
  | 118 => ⟨S8x512x512, .f32⟩
  | 119 => ⟨S_, .f32⟩
  | 120 => ⟨S8x512, .f32⟩
  | 121 => ⟨S8x512x1, .f32⟩
  | 122 => ⟨S_, .f32⟩
  | 123 => ⟨S8x512x1, .f32⟩
  | 124 => ⟨S8x512x1, .f32⟩
  | 125 => ⟨S8x512x512, .f32⟩
  | 126 => ⟨S8x512x512, .f32⟩
  | 127 => ⟨S_, .f32⟩
  | _ => ⟨S8x512x512, .f32⟩

abbrev hbmTy0_1 (i : Nat) : BufTy := match i % 128 with
  | 0 => ⟨S8x512, .f32⟩
  | 1 => ⟨S8x1x512, .f32⟩
  | 2 => ⟨S_, .f32⟩
  | 3 => ⟨S8x1x512, .f32⟩
  | 4 => ⟨S8x1x512, .f32⟩
  | 5 => ⟨S8x512x512, .f32⟩
  | 6 => ⟨S8x512x512, .f32⟩
  | 7 => ⟨S_, .f32⟩
  | 8 => ⟨S8x512, .f32⟩
  | 9 => ⟨S8x512x1, .f32⟩
  | 10 => ⟨S_, .f32⟩
  | 11 => ⟨S8x512x1, .f32⟩
  | 12 => ⟨S8x512x1, .f32⟩
  | 13 => ⟨S8x512x512, .f32⟩
  | 14 => ⟨S8x512x512, .f32⟩
  | 15 => ⟨S_, .f32⟩
  | 16 => ⟨S8x512, .f32⟩
  | 17 => ⟨S8x1x512, .f32⟩
  | 18 => ⟨S_, .f32⟩
  | 19 => ⟨S8x1x512, .f32⟩
  | 20 => ⟨S8x1x512, .f32⟩
  | 21 => ⟨S8x512x512, .f32⟩
  | 22 => ⟨S8x512x512, .f32⟩
  | 23 => ⟨S_, .f32⟩
  | 24 => ⟨S8x512, .f32⟩
  | 25 => ⟨S8x512x1, .f32⟩
  | 26 => ⟨S_, .f32⟩
  | 27 => ⟨S8x512x1, .f32⟩
  | 28 => ⟨S8x512x1, .f32⟩
  | 29 => ⟨S8x512x512, .f32⟩
  | 30 => ⟨S8x512x512, .f32⟩
  | 31 => ⟨S_, .f32⟩
  | 32 => ⟨S8x512, .f32⟩
  | 33 => ⟨S8x1x512, .f32⟩
  | 34 => ⟨S_, .f32⟩
  | 35 => ⟨S8x1x512, .f32⟩
  | 36 => ⟨S8x1x512, .f32⟩
  | 37 => ⟨S8x512x512, .f32⟩
  | 38 => ⟨S8x512x512, .f32⟩
  | 39 => ⟨S_, .f32⟩
  | 40 => ⟨S8x512, .f32⟩
  | 41 => ⟨S8x512x1, .f32⟩
  | 42 => ⟨S_, .f32⟩
  | 43 => ⟨S8x512x1, .f32⟩
  | 44 => ⟨S8x512x1, .f32⟩
  | 45 => ⟨S8x512x512, .f32⟩
  | 46 => ⟨S8x512x512, .f32⟩
  | 47 => ⟨S8x512x512, .f32⟩
  | _ => ⟨S8x512x512, .f32⟩

abbrev hbmTy (i : Nat) : BufTy := match i / 128 with
  | 0 => hbmTy0_0 i
  | 1 => hbmTy0_1 i
  | _ => ⟨S8x512x512, .f32⟩

abbrev bufTy : (tb : Table) → Fin (tcTables nBuf tb) → BufTy
  | .hbm, ⟨i, _⟩ => hbmTy i
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_cst_14 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_v60 : Ref sig .tc := ⟨.hbm, 81, rfl⟩
abbrev main_cst_16 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_17 : Ref sig .tc := ⟨.hbm, 87, rfl⟩
abbrev main_v65 : Ref sig .tc := ⟨.hbm, 88, rfl⟩
abbrev main_v66 : Ref sig .tc := ⟨.hbm, 89, rfl⟩
abbrev main_cst_18 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_19 : Ref sig .tc := ⟨.hbm, 95, rfl⟩
abbrev main_v71 : Ref sig .tc := ⟨.hbm, 96, rfl⟩
abbrev main_v72 : Ref sig .tc := ⟨.hbm, 97, rfl⟩
abbrev main_cst_20 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_21 : Ref sig .tc := ⟨.hbm, 103, rfl⟩
abbrev main_v77 : Ref sig .tc := ⟨.hbm, 104, rfl⟩
abbrev main_v78 : Ref sig .tc := ⟨.hbm, 105, rfl⟩
abbrev main_cst_22 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_23 : Ref sig .tc := ⟨.hbm, 111, rfl⟩
abbrev main_v83 : Ref sig .tc := ⟨.hbm, 112, rfl⟩
abbrev main_v84 : Ref sig .tc := ⟨.hbm, 113, rfl⟩
abbrev main_cst_24 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_25 : Ref sig .tc := ⟨.hbm, 119, rfl⟩
abbrev main_v89 : Ref sig .tc := ⟨.hbm, 120, rfl⟩
abbrev main_v90 : Ref sig .tc := ⟨.hbm, 121, rfl⟩
abbrev main_cst_26 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_27 : Ref sig .tc := ⟨.hbm, 127, rfl⟩
abbrev main_v95 : Ref sig .tc := ⟨.hbm, 128, rfl⟩
abbrev main_v96 : Ref sig .tc := ⟨.hbm, 129, rfl⟩
abbrev main_cst_28 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_29 : Ref sig .tc := ⟨.hbm, 135, rfl⟩
abbrev main_v101 : Ref sig .tc := ⟨.hbm, 136, rfl⟩
abbrev main_v102 : Ref sig .tc := ⟨.hbm, 137, rfl⟩
abbrev main_cst_30 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_31 : Ref sig .tc := ⟨.hbm, 143, rfl⟩
abbrev main_v107 : Ref sig .tc := ⟨.hbm, 144, rfl⟩
abbrev main_v108 : Ref sig .tc := ⟨.hbm, 145, rfl⟩
abbrev main_cst_32 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_33 : Ref sig .tc := ⟨.hbm, 151, rfl⟩
abbrev main_v113 : Ref sig .tc := ⟨.hbm, 152, rfl⟩
abbrev main_v114 : Ref sig .tc := ⟨.hbm, 153, rfl⟩
abbrev main_cst_34 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_35 : Ref sig .tc := ⟨.hbm, 159, rfl⟩
abbrev main_v119 : Ref sig .tc := ⟨.hbm, 160, rfl⟩
abbrev main_v120 : Ref sig .tc := ⟨.hbm, 161, rfl⟩
abbrev main_cst_36 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_37 : Ref sig .tc := ⟨.hbm, 167, rfl⟩
abbrev main_v125 : Ref sig .tc := ⟨.hbm, 168, rfl⟩
abbrev main_v126 : Ref sig .tc := ⟨.hbm, 169, rfl⟩
abbrev main_cst_38 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩

abbrev nD : Nat := 1
abbrev τ : Topo := Topo.v7x

variable {F : FTy → Type} [FloatOps F]
-- ==== Proof.KernelVocab.lean ====
/-
The kernel's body in four words: the exponentials of one batch, the alternating column and row sweeps that keep
only two scaling vectors, and the weighted sum they end in. The four stores of one grid point are the same
expression of the four batches' loads.
-/
module

public import proofs.«01_k».proof.Proof.Gen.KernelIdeal.Value

@[expose] public section

noncomputable section

namespace Cert.KernelIdeal.Vocab

open Cert.KernelIdeal Cert.KernelIdeal.Gen Idealize.ShloMosaic

variable {F : FTy → Type} [FloatOps F]

/-- The reciprocals of a row of scaling factors. -/
def recipRow (b : FVec F S1x512 .f32) : FVec F S1x512 .f32 :=
  divf (broadcast S1x512 (Scalar.ofBits .f32 0x3F800000#32)) b

/-- One sweep: the column factors from the old pair, then the row factors from the new column factors. -/
def sweep (e : FVec F S512x512 .f32) (p : FVec F S512x1 .f32 × FVec F S1x512 .f32) :
    FVec F S512x1 .f32 × FVec F S1x512 .f32 :=
  (k0_pay27 e p.1 (recipRow (k0_pay20 e p.1 p.2)), k0_pay20 e p.1 p.2)

/-- The scaling factors after `n` sweeps, starting from the row sums and from ones. -/
def factors (e : FVec F S512x512 .f32) : Nat → FVec F S512x1 .f32 × FVec F S1x512 .f32
  | 0 => (k0_pay14 e, k0_pay18)
  | n + 1 => sweep e (factors e n)

/-- What the body stores for one batch: from its row of durations and its block of values. -/
def batchOut (d : Vec F S1x1x512 .i32) (x : Vec F S1x512x512 .f32) : Vec F S1x512x512 .f32 :=
  k0_pay1 (factors (k0_pay4 d) 8).1 (k0_pay127 (k0_pay4 d) (recipRow (factors (k0_pay4 d) 8).2)) x

/-- The output block of a grid point: the four stores are `batchOut` of the four batches' loads. -/
theorem out_eq (x0 : Vec F S4x1x512 .i32) (x1 : Vec F S4x512x512 .f32) :
    out0_2 x0 x1 = View.canon [⟨r0_7, batchOut (View.ld x0 r0_3) (View.ld x1 r0_7)⟩,
      ⟨r0_6, batchOut (View.ld x0 r0_2) (View.ld x1 r0_6)⟩,
      ⟨r0_5, batchOut (View.ld x0 r0_1) (View.ld x1 r0_5)⟩,
      ⟨r0_4, batchOut (View.ld x0 r0_0) (View.ld x1 r0_4)⟩] := rfl

end Cert.KernelIdeal.Vocab
-- ==== Proof.Sinkhorn.lean ====
/-
The mathematics of the two programs over the real numbers: normalising the columns and the rows of a positive
matrix again and again is the same as scaling its rows and columns by two vectors that are updated in turn.
-/
module

public import Idealize.ShloMosaic.PureOps.Ideal

@[expose] public section

noncomputable section

namespace Cert.Sinkhorn

open Finset

variable {ι : Type} [Fintype ι]

/-- The column factors of the next sweep. -/
def colNext (ε : ℝ) (e : ι → ι → ℝ) (a b : ι → ℝ) (j : ι) : ℝ := ∑ i, e i j * (1 / a i) + ε * b j

/-- The row factors of the next sweep, from the new column factors. -/
def rowNext (ε : ℝ) (e : ι → ι → ℝ) (a b : ι → ℝ) (i : ι) : ℝ := ∑ j, e i j * (1 / b j) + ε * a i

/-- The row and the column factors after `n` sweeps. -/
def scal (ε : ℝ) (e : ι → ι → ℝ) : ℕ → (ι → ℝ) × (ι → ℝ)
  | 0 => (fun i => ∑ j, e i j, fun _ => 1)
  | n + 1 =>
    (rowNext ε e (scal ε e n).1 (colNext ε e (scal ε e n).1 (scal ε e n).2),
      colNext ε e (scal ε e n).1 (scal ε e n).2)

/-- A matrix with each column divided by its sum plus `ε`. -/
def colNorm (ε : ℝ) (w : ι → ι → ℝ) (i j : ι) : ℝ := w i j / (∑ k, w k j + ε)

/-- A matrix with each row divided by its sum plus `ε`. -/
def rowNorm (ε : ℝ) (w : ι → ι → ℝ) (i j : ι) : ℝ := w i j / (∑ k, w i k + ε)

/-- The matrix after `n` rounds of normalising columns, then rows; at the start each row sums to one. -/
def norm (ε : ℝ) (e : ι → ι → ℝ) : ℕ → ι → ι → ℝ
  | 0 => fun i j => e i j / ∑ k, e i k
  | n + 1 => rowNorm ε (colNorm ε (norm ε e n))

variable {ε : ℝ} {e : ι → ι → ℝ}

/-- A nonempty sum of positive numbers is positive. -/
theorem sum_pos_of [Nonempty ι] {f : ι → ℝ} (h : ∀ k, 0 < f k) : 0 < ∑ k, f k :=
  sum_pos (fun k _ => h k) univ_nonempty

/-- The next column factors of positive factors are positive. -/
theorem colNext_pos [Nonempty ι] (hε : 0 < ε) (he : ∀ i j, 0 < e i j) {a b : ι → ℝ} (ha : ∀ i, 0 < a i)
    (hb : ∀ j, 0 < b j) (j : ι) : 0 < colNext ε e a b j :=
  add_pos (sum_pos_of fun i => mul_pos (he i j) (one_div_pos.mpr (ha i))) (mul_pos hε (hb j))

/-- The next row factors of positive factors are positive. -/
theorem rowNext_pos [Nonempty ι] (hε : 0 < ε) (he : ∀ i j, 0 < e i j) {a b : ι → ℝ} (ha : ∀ i, 0 < a i)
    (hb : ∀ j, 0 < b j) (i : ι) : 0 < rowNext ε e a b i :=
  add_pos (sum_pos_of fun j => mul_pos (he i j) (one_div_pos.mpr (hb j))) (mul_pos hε (ha i))

/-- Every factor is positive, after any number of sweeps. -/
theorem scal_pos [Nonempty ι] (hε : 0 < ε) (he : ∀ i j, 0 < e i j) :
    ∀ n, (∀ i, 0 < (scal ε e n).1 i) ∧ ∀ j, 0 < (scal ε e n).2 j
  | 0 => ⟨fun i => sum_pos_of (he i), fun _ => one_pos⟩
  | n + 1 =>
    have ⟨ha, hb⟩ := scal_pos hε he n
    have hb' := colNext_pos hε he ha hb
    ⟨rowNext_pos hε he ha hb', hb'⟩

/-- Every entry of the normalised matrix is positive, and so are the sums it is divided by. -/
theorem colNorm_pos [Nonempty ι] (hε : 0 < ε) {w : ι → ι → ℝ} (hw : ∀ i j, 0 < w i j) (i j : ι) :
    0 < colNorm ε w i j :=
  div_pos (hw i j) (add_pos (sum_pos_of fun k => hw k j) hε)

/-- A row normalisation of a positive matrix is positive. -/
theorem rowNorm_pos [Nonempty ι] (hε : 0 < ε) {w : ι → ι → ℝ} (hw : ∀ i j, 0 < w i j) (i j : ι) :
    0 < rowNorm ε w i j :=
  div_pos (hw i j) (add_pos (sum_pos_of fun k => hw i k) hε)

/-- The normalised matrix is positive after any number of rounds. -/
theorem norm_pos [Nonempty ι] (hε : 0 < ε) (he : ∀ i j, 0 < e i j) : ∀ n i j, 0 < norm ε e n i j
  | 0 => fun i j => div_pos (he i j) (sum_pos_of (he i))
  | n + 1 => rowNorm_pos hε (colNorm_pos hε (norm_pos hε he n))

/-- Normalising the columns of a scaled matrix replaces the column factors by the next ones. -/
theorem colNorm_scaled [Nonempty ι] (hε : 0 < ε) (he : ∀ i j, 0 < e i j) {a b : ι → ℝ} (ha : ∀ i, 0 < a i)
    (hb : ∀ j, 0 < b j) (i j : ι) :
    colNorm ε (fun i j => e i j / (a i * b j)) i j = e i j / (a i * colNext ε e a b j) := by
  have hs : ∑ k, e k j / (a k * b j) + ε = colNext ε e a b j / b j := by
    rw [colNext, add_div, mul_div_assoc, div_self (hb j).ne', mul_one, sum_div]
    congr 1
    refine sum_congr rfl fun k _ => ?_
    have := (ha k).ne'
    have := (hb j).ne'
    field_simp
  have h := (colNext_pos hε he ha hb j).ne'
  have := (ha i).ne'
  have := (hb j).ne'
  rw [colNorm, hs]
  field_simp

/-- Normalising the rows of a scaled matrix replaces the row factors by the next ones. -/
theorem rowNorm_scaled [Nonempty ι] (hε : 0 < ε) (he : ∀ i j, 0 < e i j) {a b : ι → ℝ} (ha : ∀ i, 0 < a i)
    (hb : ∀ j, 0 < b j) (i j : ι) :
    rowNorm ε (fun i j => e i j / (a i * b j)) i j = e i j / (rowNext ε e a b i * b j) := by
  have hs : ∑ k, e i k / (a i * b k) + ε = rowNext ε e a b i / a i := by
    rw [rowNext, add_div, mul_div_assoc, div_self (ha i).ne', mul_one, sum_div]
    congr 1
    refine sum_congr rfl fun k _ => ?_
    have := (ha i).ne'
    have := (hb k).ne'
    field_simp
  have h := (rowNext_pos hε he ha hb i).ne'
  have := (ha i).ne'
  have := (hb j).ne'
  rw [rowNorm, hs]
  field_simp

/-- The normalised matrix is the matrix of exponentials divided by its row and column factors. -/
theorem norm_eq_scaled [Nonempty ι] (hε : 0 < ε) (he : ∀ i j, 0 < e i j) :
    ∀ n, norm ε e n = fun i j => e i j / ((scal ε e n).1 i * (scal ε e n).2 j)
  | 0 => by
    funext i j
    simp [norm, scal]
  | n + 1 => by
    have ⟨ha, hb⟩ := scal_pos hε he n
    have hc := colNorm_scaled hε he ha hb
    have hr := rowNorm_scaled hε he ha (colNext_pos hε he ha hb)
    funext i j
    rw [norm, norm_eq_scaled hε he n, show colNorm ε _ = _ from funext fun i => funext fun j => hc i j, hr]
    rfl

/-- A finite sum of extended reals times a nonnegative real is the sum of the products. -/
theorem sum_mul_coe (s : Finset ι) (f : ι → EReal) {r : ℝ} (hr : 0 ≤ r) :
    (∑ k ∈ s, f k) * (r : EReal) = ∑ k ∈ s, f k * (r : EReal) := by
  classical
  induction s using Finset.induction_on with
  | empty => simp
  | insert k s hk ih =>
    rw [sum_insert hk, sum_insert hk, ← ih]
    exact EReal.right_distrib_of_nonneg_of_ne_top (EReal.coe_nonneg.mpr hr) (EReal.coe_ne_top r) _ _

/-- The kernel's last step at one output element: the values weighted by the exponentials over their column factors,
    summed and divided by the row factor, is the normalised matrix applied to the values — whatever extended reals
    the values are. -/
theorem weighted_eq [Nonempty ι] (hε : 0 < ε) (he : ∀ i j, 0 < e i j) (n : ℕ) (x : ι → EReal) (i : ι) :
    (∑ j, ((e i j * (1 / (scal ε e n).2 j) : ℝ) : EReal) * x j) * ((1 / (scal ε e n).1 i : ℝ) : EReal)
      = ∑ j, ((norm ε e n i j : ℝ) : EReal) * x j := by
  have ⟨ha, hb⟩ := scal_pos hε he n
  rw [sum_mul_coe _ _ (one_div_pos.mpr (ha i)).le, norm_eq_scaled hε he n]
  refine sum_congr rfl fun j _ => ?_
  rw [mul_right_comm, ← EReal.coe_mul]
  congr 2
  have := (ha i).ne'
  have := (hb j).ne'
  field_simp

end Cert.Sinkhorn
-- ==== Proof.Numbers.lean ====
/-
The numbers both programs compute from one row of durations, over the reals: running sums, centres, logits, the
largest logit of a row and the exponentials; with the constants of the programs read as real numbers.
-/
module

public import proofs.«01_k».proof.Proof.Sinkhorn
public import Idealize.ShloMosaic.PureOps.Ideal.Laws
public import Idealize.ShloMosaic.Lib.IdealHost

@[expose] public section

noncomputable section

namespace Cert.Numbers

open Idealize.ShloMosaic

/-! ## Constants -/

/-- The word of one half denotes one half. -/
theorem word_half : Ideal.ofBits .f32 0x3F000000#32 = ((1 / 2 : ℝ) : EReal) := by
  simp [Ideal.ofBits, Ideal.ieee, -EReal.coe_mul]; norm_num

/-- The word of 512 denotes 512. -/
theorem word_512 : Ideal.ofBits .f32 0x44000000#32 = ((512 : ℝ) : EReal) := by
  simp [Ideal.ofBits, Ideal.ieee, -EReal.coe_mul]; norm_num

/-- The word of the reciprocal of 512 denotes it. -/
theorem word_inv512 : Ideal.ofBits .f32 0x3B000000#32 = ((1 / 512 : ℝ) : EReal) := by
  simp [Ideal.ofBits, Ideal.ieee, -EReal.coe_mul]; norm_num

/-- The word of negative infinity denotes the least extended real. -/
theorem word_bot : Ideal.ofBits .f32 0xFF800000#32 = ⊥ := by
  simp [Ideal.ofBits, Ideal.ieee]

/-- The small number added to every sum before a division. -/
def eps : ℝ := (Ideal.ofBits .f32 0x322BCC77#32).toReal

/-- It is a positive real, and the word denotes it. -/
theorem word_eps : Ideal.ofBits .f32 0x322BCC77#32 = (eps : EReal) ∧ 0 < eps := by
  have h : ∃ r : ℝ, 0 < r ∧ Ideal.ofBits .f32 0x322BCC77#32 = (r : EReal) := by
    simp only [Ideal.ofBits, Ideal.ieee]
    rw [if_neg (by decide), if_neg (by decide)]
    refine ⟨_, ?_, rfl⟩
    rw [if_neg (by decide)]
    positivity
  obtain ⟨r, hr, h⟩ := h
  have he : eps = r := by rw [eps, h, EReal.toReal_coe]
  rw [he]
  exact ⟨h, hr⟩

/-! ## The extended-real operations on reals -/

/-- A division by a nonzero real is the real division. -/
theorem div_coe_coe (x : ℝ) {y : ℝ} (h : y ≠ 0) : Ideal.div (x : EReal) (y : EReal) = ((x / y : ℝ) : EReal) := by
  rw [Ideal.div_coe h, ← EReal.coe_mul, mul_one_div]

/-- A small natural number converted from its word is that number. -/
theorem sitofp_small {n : ℕ} (h : n ≤ 512) :
    FloatOps.sitofp (F := Ideal) .f32 (BitVec.ofNat 32 n) = (((n : ℝ)) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

/-- A finite sum of reals is the same sum of extended reals. -/
theorem coe_sum {ι : Type} [Fintype ι] (f : ι → ℝ) : ∑ k, ((f k : ℝ) : EReal) = ((∑ k, f k : ℝ) : EReal) :=
  (map_sum (⟨⟨fun r : ℝ => (r : EReal), rfl⟩, EReal.coe_add⟩ : ℝ →+ EReal) f Finset.univ).symm

/-- The larger of two reals is the same in the extended reals. -/
theorem coe_max (x y : ℝ) : max (x : EReal) (y : EReal) = ((max x y : ℝ) : EReal) :=
  (EReal.coe_strictMono.monotone.map_max).symm

/-- The largest of a family of reals, as the programs compute it: folded from the least extended real. -/
def top (f : Fin 512 → ℝ) : ℝ := (Finset.univ.fold max (⊥ : EReal) fun k => (f k : EReal)).toReal

/-- A fold of the maximum over at least one real is a real. -/
theorem fold_top (f : Fin 512 → ℝ) : (Finset.univ.fold max (⊥ : EReal) fun k => (f k : EReal)) = (top f : EReal) := by
  have hb : (Finset.univ.fold max (⊥ : EReal) fun k => (f k : EReal)) ≠ ⊥ := by
    refine (lt_of_lt_of_le (EReal.bot_lt_coe (f 0)) ?_).ne'
    exact (Finset.le_fold_max _).mpr (Or.inr ⟨0, Finset.mem_univ _, le_rfl⟩)
  have ht : (Finset.univ.fold max (⊥ : EReal) fun k => (f k : EReal)) ≠ ⊤ :=
    ((Finset.fold_max_lt _).mpr ⟨bot_lt_top, fun k _ => EReal.coe_lt_top _⟩).ne
  exact (EReal.coe_toReal ht hb).symm

/-! ## From durations to exponentials -/

variable (d : Fin 512 → ℝ)

/-- The running sum of the durations up to and including place `j`. -/
def cum (j : Fin 512) : ℝ := ∑ k, d k * (if k ≤ j then 1 else 0)

/-- The length of the whole row, at least one. -/
def total : ℝ := max (cum d 511) 1

/-- The length rescaled to is positive, being at least one. -/
theorem total_pos : 0 < total d := lt_of_lt_of_le one_pos (le_max_right _ _)

/-- The centre of segment `j`, on the scale of the output. -/
def centre (j : Fin 512) : ℝ := (cum d j - 1 / 2 * d j) * (512 / total d)

/-- The logit of output place `i` and segment `j`. -/
def logit (i j : Fin 512) : ℝ :=
  (0 - ((i.val : ℝ) + 1 / 2 - centre d j) * ((i.val : ℝ) + 1 / 2 - centre d j)) * (1 / 512)

/-- The exponential of a logit less the largest of its row. -/
def expo (i j : Fin 512) : ℝ := Real.exp (logit d i j - top (logit d i))

/-- Every exponential is positive. -/
theorem expo_pos (i j : Fin 512) : 0 < expo d i j := Real.exp_pos _

end Cert.Numbers
-- ==== Proof.KernelRead.lean ====
/-
The kernel's vectors read at an index, over the extended reals: every one of them but the values to be mixed is
the real number that `Numbers` and `Sinkhorn` name.
-/
module

public import proofs.«01_k».proof.Proof.KernelVocab
public import proofs.«01_k».proof.Proof.Numbers
public import Idealize.ShloMosaic.Lib.Pointwise
public import Idealize.ShloMosaic.Lib.WordCmp

@[expose] public section

noncomputable section

namespace Cert.KernelIdeal.Vocab

open Cert.KernelIdeal Cert.KernelIdeal.Gen Idealize.ShloMosaic Cert.Numbers Cert.Sinkhorn

/-- The triangular matrix of ones that turns a row into its running sums. -/
theorem tri_apply (a b : Fin 512) : k0_pay2 (F := Ideal) (ix2 a b) = (((if a ≤ b then 1 else 0 : ℝ)) : EReal) := by
  pointwise [k0_pay2]
  have hc : IntOp.cmpi .sle (BitVec.ofNat 32 a.val) (BitVec.ofNat 32 b.val) = BitVec.ofBool (decide (a ≤ b)) :=
    WordCmp.cmpi_sle_ofNat (by have := a.isLt; omega) (by have := b.isLt; omega)
  rw [hc]
  by_cases h : a ≤ b
  · rw [if_pos h, decide_eq_true h]
    exact (sitofp_small (n := 1) (by decide)).trans (by simp)
  · rw [if_neg h, decide_eq_false h]
    exact (sitofp_small (n := 0) (by decide)).trans (by simp)

/-- The row numbers of a square. -/
theorem row_apply (a b : Fin 512) : k0_pay3 (F := Ideal) (ix2 a b) = ((a.val : ℝ) : EReal) := by
  pointwise [k0_pay3]
  exact sitofp_small a.isLt.le

/-- The durations of one batch, as reals. -/
def dur (v : Vec Ideal S1x1x512 .i32) (k : Fin 512) : ℝ := (v (ix3 0 0 k)).toInt

/-- A running sum, as the matrix product computes it. -/
theorem cum_apply (v : Vec Ideal S1x1x512 .i32) (j : Fin 512) :
    ∑ k, FloatOps.sitofp (F := Ideal) .f32 (v (ix3 0 0 k)) * k0_pay2 (F := Ideal) (ix2 k j) = (cum (dur v) j : EReal) := by
  rw [cum, ← coe_sum]
  refine Finset.sum_congr rfl fun k _ => ?_
  rw [tri_apply, EReal.coe_mul]
  rfl

/-- The exponentials of one batch. -/
theorem expo_apply (v : Vec Ideal S1x1x512 .i32) (i j : Fin 512) :
    k0_pay4 v (ix2 i j) = (expo (dur v) i j : EReal) := by
  have hl (j : Fin 512) :
      (0 -
        (k0_pay3 (F := Ideal) (ix2 i j) + Ideal.ofBits .f32 0x3F000000#32 -
            (∑ k, FloatOps.sitofp (F := Ideal) .f32 (v (ix3 0 0 k)) * k0_pay2 (F := Ideal) (ix2 k j) -
                Ideal.ofBits .f32 0x3F000000#32 * FloatOps.sitofp (F := Ideal) .f32 (v (ix3 0 0 j))) *
              Ideal.div (Ideal.ofBits .f32 0x44000000#32)
                (max (∑ k, FloatOps.sitofp (F := Ideal) .f32 (v (ix3 0 0 k)) * k0_pay2 (F := Ideal) (ix2 k 511)) 1)) *
          (k0_pay3 (F := Ideal) (ix2 i j) + Ideal.ofBits .f32 0x3F000000#32 -
            (∑ k, FloatOps.sitofp (F := Ideal) .f32 (v (ix3 0 0 k)) * k0_pay2 (F := Ideal) (ix2 k j) -
                Ideal.ofBits .f32 0x3F000000#32 * FloatOps.sitofp (F := Ideal) .f32 (v (ix3 0 0 j))) *
              Ideal.div (Ideal.ofBits .f32 0x44000000#32)
                (max (∑ k, FloatOps.sitofp (F := Ideal) .f32 (v (ix3 0 0 k)) * k0_pay2 (F := Ideal) (ix2 k 511)) 1))) *
        Ideal.ofBits .f32 0x3B000000#32 = (logit (dur v) i j : EReal) := by
    have ht : max (cum (dur v) 511 : EReal) 1 = (total (dur v) : EReal) := coe_max _ 1
    have hd : FloatOps.sitofp (F := Ideal) .f32 (v (ix3 0 0 j)) = (dur v j : EReal) := rfl
    simp only [cum_apply, row_apply, word_half, word_512, word_inv512, hd, ht]
    rw [div_coe_coe _ (total_pos _).ne', show (0 : EReal) = ((0 : ℝ) : EReal) from rfl]
    simp only [← EReal.coe_mul, ← EReal.coe_sub, ← EReal.coe_add]
    rfl
  pointwise [k0_pay4]
  simp only [hl, word_bot, fold_top, ← EReal.coe_sub, Ideal.exp_coe]
  rfl

/-- The reciprocal of a nonzero real. -/
theorem one_div_coe {y : ℝ} (h : 0 < y) : Ideal.div 1 (y : EReal) = ((1 / y : ℝ) : EReal) :=
  div_coe_coe 1 h.ne'

variable {e : FVec Ideal S512x512 .f32} {E : Fin 512 → Fin 512 → ℝ}

/-- The scaling factors of a square of positive reals, after any number of sweeps. -/
theorem factors_apply (hE : ∀ i j, 0 < E i j) (he : ∀ i j, e (ix2 i j) = (E i j : EReal)) : ∀ n,
    (∀ i, (factors e n).1 (ix2 i 0) = ((scal eps E n).1 i : EReal))
      ∧ ∀ j, (factors e n).2 (ix2 0 j) = ((scal eps E n).2 j : EReal)
  | 0 => by
    constructor
    · intro i
      show k0_pay14 e (ix2 i 0) = _
      pointwise [k0_pay14]
      simp only [he, coe_sum]
      rfl
    · intro j
      show k0_pay18 (F := Ideal) (ix2 0 j) = _
      pointwise [k0_pay18]
      rfl
  | n + 1 => by
    have ⟨iha, ihb⟩ := factors_apply hE he n
    have ⟨ha, hb⟩ := scal_pos word_eps.2 hE n
    have hc (j : Fin 512) : (factors e (n + 1)).2 (ix2 0 j) = ((scal eps E (n + 1)).2 j : EReal) := by
      show k0_pay20 e (factors e n).1 (factors e n).2 (ix2 0 j) = _
      pointwise [k0_pay20]
      simp only [he, iha, ihb, one_div_coe (ha _), word_eps.1, ← EReal.coe_mul, coe_sum, ← EReal.coe_add]
      rfl
    refine ⟨fun i => ?_, hc⟩
    have hb' := (scal_pos word_eps.2 hE (n + 1)).2
    show k0_pay27 e (factors e n).1 (recipRow (factors e (n + 1)).2) (ix2 i 0) = _
    pointwise [k0_pay27, recipRow]
    simp only [he, iha, hc, one_div_coe (hb' _), word_eps.1, ← EReal.coe_mul, coe_sum, ← EReal.coe_add]
    rfl

/-- One element of what the body stores for a batch: the normalised exponentials applied to the values. -/
theorem batchOut_apply (v : Vec Ideal S1x1x512 .i32) (x : Vec Ideal S1x512x512 .f32) (i c : Fin 512) :
    batchOut v x (ix3 0 i c) = ∑ j, ((norm eps (expo (dur v)) 8 i j : ℝ) : EReal) * x (ix3 0 j c) := by
  have hf := factors_apply (expo_pos (dur v)) (expo_apply v) 8
  have ⟨ha, hb⟩ := scal_pos word_eps.2 (expo_pos (dur v)) 8
  rw [← weighted_eq word_eps.2 (expo_pos (dur v))]
  unfold batchOut
  pointwise [k0_pay1, k0_pay127, recipRow]
  simp only [hf.1, hf.2, one_div_coe (ha _), one_div_coe (hb _), expo_apply, ← EReal.coe_mul]

end Cert.KernelIdeal.Vocab
-- ==== Proof.KernelArray.lean ====
/-
The kernel's result array as one function of its two arguments. A grid point's block is read off the two argument
arrays at the batch it stands for, the four stores of a point fill its block, and the two blocks fill the array.
-/
module

public import proofs.«01_k».proof.Proof.KernelRead
public import Idealize.ShloMosaic.Lib.Pipeline.ValueKit.Point

@[expose] public section

noncomputable section

namespace Cert.KernelIdeal.Vocab

open Cert.KernelIdeal Cert.KernelIdeal.Gen Idealize.ShloMosaic Idealize.ShloMosaic.TcCoe Idealize.SL.Sem
open Cert.Sinkhorn Cert.Numbers

/-- One entry of the result: the weighted sum of one batch, its weights the matrix of its durations. -/
def entry (d : Fin 512 → ℝ) (i : Fin 512) (y : Fin 512 → EReal) : EReal :=
  ∑ j, ((norm eps (expo d) 8 i j : ℝ) : EReal) * y j

/-- Equal durations, row and values give equal entries. -/
theorem entry_congr {d d' : Fin 512 → ℝ} {i i' : Fin 512} {y y' : Fin 512 → EReal} (hd : ∀ k, d k = d' k)
    (hi : i = i') (hy : ∀ j, y j = y' j) : entry d i y = entry d' i' y' := by
  rw [funext hd, hi, funext hy]

/-- A block of four batches, as one function of its durations and its values. -/
def block (x0 : Vec Ideal S4x1x512 .i32) (x1 : Vec Ideal S4x512x512 .f32) : Vec Ideal S4x512x512 .f32 :=
  fun y => entry (fun k => ((x0 (ix3 (y 0) 0 k)).toInt : ℝ)) (y 1) (fun j => x1 (ix3 (y 0) j (y 2)))

/-- The whole result, as one function of the two argument arrays. -/
def whole (x1 : Vec Ideal S8x512x512 .f32) (x0 : Vec Ideal S8x512 .i32) : Vec Ideal S8x512x512 .f32 :=
  fun y => entry (fun k => ((x0 (ix2 (y 0) k)).toInt : ℝ)) (y 1) (fun j => x1 (ix3 (y 0) j (y 2)))

/-- What is stored for one batch, at any index of its block. -/
theorem batchOut_entry (v : Vec Ideal S1x1x512 .i32) (x : Vec Ideal S1x512x512 .f32) (y : S1x512x512.Idx) :
    batchOut v x y = entry (dur v) (y 1) (fun j => x (ix3 0 j (y 2))) := by
  have hy : y = ix3 0 (y 1) (y 2) := by
    funext a
    match a with
    | ⟨0, _⟩ => exact Subsingleton.elim (α := Fin 1) _ _
    | ⟨1, _⟩ => rfl
    | ⟨2, _⟩ => rfl
  rw [hy]
  exact batchOut_apply v x (y 1) (y 2)

/-- A batch's store is its part of the block function: stated at any batch number `k` of the four. -/
theorem piece_eq (x0 : Vec Ideal S4x1x512 .i32) (x1 : Vec Ideal S4x512x512 .f32) (k : Fin 4)
    (inb0 : ∀ a, ![k.val, 0, 0] a + S1x1x512.size a ≤ S4x1x512.size a)
    (inb1 : ∀ a, ![k.val, 0, 0] a + S1x512x512.size a ≤ S4x512x512.size a) (y : S1x512x512.Idx) :
    batchOut (View.ld x0 (Rect.unit (s := S4x1x512) ![k.val, 0, 0] S1x1x512.size inb0))
      (View.ld x1 (Rect.unit (s := S4x512x512) ![k.val, 0, 0] S1x512x512.size inb1)) y
    = block x0 x1 ((Rect.unit (s := S4x512x512) ![k.val, 0, 0] S1x512x512.size inb1).emb y) := by
  have h0 : (y 0).val = 0 := Nat.lt_one_iff.mp (y 0).isLt
  rw [batchOut_entry]
  refine entry_congr (fun l => ?_) (Fin.ext ?_) (fun j => ?_)
  · refine congrArg (fun w : BitVec 32 => (w.toInt : ℝ)) (View.ld_unit_apply_of x0 _ _ _ _ _ fun a => ?_)
    match a with
    | ⟨0, _⟩ => show k.val + 1 * (y 0).val = k.val + 0; omega
    | ⟨1, _⟩ => rfl
    | ⟨2, _⟩ => show l.val = 0 + l.val; omega
  · show (y 1).val = 0 + 1 * (y 1).val
    omega
  · refine View.ld_unit_apply_of x1 _ _ _ _ _ fun a => ?_
    match a with
    | ⟨0, _⟩ => show k.val + 1 * (y 0).val = k.val + 0; omega
    | ⟨1, _⟩ => show j.val = 0 + j.val; omega
    | ⟨2, _⟩ => show 0 + 1 * (y 2).val = 0 + (y 2).val; omega

/-- The four stores of a grid point fill its block with the block function. -/
theorem out_block (x0 : Vec Ideal S4x1x512 .i32) (x1 : Vec Ideal S4x512x512 .f32) : out0_2 x0 x1 = block x0 x1 := by
  funext y
  rw [out_eq]
  refine View.canon_apply_of_pieces (block x0 x1) _ (fun p hp => ?_) y (cover0_2 _ _ _ _ y)
  simp only [List.mem_cons, List.not_mem_nil, or_false] at hp
  rcases hp with rfl | rfl | rfl | rfl
  · exact piece_eq x0 x1 3 _ _
  · exact piece_eq x0 x1 2 _ _
  · exact piece_eq x0 x1 1 _ _
  · exact piece_eq x0 x1 0 _ _

variable (m : (ℓ : Loc nD τ sig) → Buf (Elt Ideal) ℓ)

/-- The block numbers of the three windows at a grid point: the point's own on the batch axis, zero on the others. -/
theorem idx (t : Fin cfg0.N) :
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) := by
  rcases fin_N0 t with rfl | rfl <;> decide +kernel

/-- The durations of a grid point's block are those of its batches in the argument array. -/
theorem iblk0_apply (c : Dev nD) (t : Fin cfg0.N) (b : Fin 4) (k : Fin 512) (B : Fin 8) (hB : B.val = t.val * 4 + b.val) :
    iblk m c 0 t (ix3 b 0 k) = m ((c : Thread nD τ).loc main_arg1) (ix2 B k) := by
  blk_ext! [iblk, V, idx t]

/-- The values of a grid point's block are those of its batches in the argument array. -/
theorem iblk1_apply (c : Dev nD) (t : Fin cfg0.N) (b : Fin 4) (j k : Fin 512) (B : Fin 8) (hB : B.val = t.val * 4 + b.val) :
    iblk m c 1 t (ix3 b j k) = m ((c : Thread nD τ).loc main_arg0) (ix3 B j k) := by
  blk_ext! [iblk, V, idx t]

/-- A grid point writes its block of the whole result. -/
theorem flushed_eq (c : Dev nD) (t : Fin cfg0.N) :
    (dats m 0 c).flushed 2 t = ((cfg0.win 2).blk t).view.read (Elt Ideal)
      (whole (m ((c : Thread nD τ).loc main_arg0)) (m ((c : Thread nD τ).loc main_arg1))) := by
  rw [Value.flushed2, out_block]
  obtain ⟨-, -, e0, e1, e2⟩ := idx t
  funext y
  show block (iblk m c 0 t) (iblk m c 1 t) y = whole _ _ (((cfg0.win 2).blk t).view.emb y)
  have hB : ((((cfg0.win 2).blk t).view.emb y) 0).val = t.val * 4 + (y 0).val := by
    show win0_2.index t (0 : Fin 3) * 4 + 1 * (y 0).val = _
    omega
  refine entry_congr (fun l => ?_) (Fin.ext ?_) (fun j => ?_)
  · exact congrArg (fun w : BitVec 32 => (w.toInt : ℝ)) (iblk0_apply m c t (y 0) l _ hB)
  · show (y 1).val = win0_2.index t (1 : Fin 3) * 512 + 1 * (y 1).val
    omega
  · have h2 : (((cfg0.win 2).blk t).view.emb y) 2 = y 2 := by
      refine Fin.ext ?_
      show win0_2.index t (2 : Fin 3) * 512 + 1 * (y 2).val = (y 2).val
      omega
    exact (iblk1_apply m c t (y 0) j (y 2) _ hB).trans (by rw [h2])

/-- Every index of the result is in the block of the grid point that its batch belongs to. -/
theorem covered (i : S8x512x512.Idx) :
    ∃ t : Fin cfg0.N, (cfg0.win 2).flush t = true ∧ i ∈ ((cfg0.win 2).blk t).view.set := by
  have hN : cfg0.N = 2 := N_0
  have h0 : (i 0).val < 8 := (i 0).isLt
  let t : Fin cfg0.N := ⟨(i 0).val / 4, by omega⟩
  obtain ⟨-, -, e0, e1, e2⟩ := idx t
  have ht : t.val = (i 0).val / 4 := rfl
  refine ⟨t, flush0_2 t, ?_⟩
  have hi : ((cfg0.win 2).blk t).view.emb (ix3 (⟨(i 0).val % 4, by omega⟩ : Fin 4) (i 1) (i 2)) = i := by
    funext a
    refine Fin.ext ?_
    match a with
    | ⟨0, _⟩ => show win0_2.index t (0 : Fin 3) * 4 + 1 * ((i 0).val % 4) = (i 0).val; omega
    | ⟨1, _⟩ => show win0_2.index t (1 : Fin 3) * 512 + 1 * (i 1).val = (i 1).val; omega
    | ⟨2, _⟩ => show win0_2.index t (2 : Fin 3) * 512 + 1 * (i 2).val = (i 2).val; omega
  exact hi ▸ ((cfg0.win 2).blk t).view.emb_mem_set _

/-- The result array after the run. -/
theorem final (c : Dev nD) : (dats m 0 c).arrAt 2 cfg0.N
    = whole (m ((c : Thread nD τ).loc main_arg0)) (m ((c : Thread nD τ).loc main_arg1)) :=
  (dats m 0 c).arrAt_eq_of_cover 2 _ (fun t _ => flushed_eq m c t) covered

end Cert.KernelIdeal.Vocab
-- ==== Proof.RefRead.lean ====
/-
The reference's buffers read at an index, over the extended reals.
-/
module

public import proofs.«01_k».proof.Proof.Gen.ReferenceIdeal.Read
public import proofs.«01_k».proof.Proof.Numbers
public import Idealize.ShloMosaic.Lib.Pointwise

@[expose] public section

noncomputable section

namespace Cert.ReferenceIdeal.Read

open Cert.ReferenceIdeal Cert.ReferenceIdeal.Gen Idealize.ShloMosaic Cert.Numbers Cert.Sinkhorn

/-! ## Running sums -/

/-- A sum taken from the left over all places is the sum. -/
theorem foldl_add_eq_sum {n : ℕ} (g : Fin n → EReal) : (List.finRange n).foldl (fun r k => r + g k) 0 = ∑ k, g k := by
  rw [Fin.sum_univ_def, List.sum_eq_foldl, List.foldl_map]

/-- The places of a window one row high, numbered by their column. -/
def windowEquiv : Fin 512 ≃ (⟨2, ![1, 512]⟩ : Shape).Idx where
  toFun q := ix2 0 q
  invFun w := w 1
  left_inv _ := rfl
  right_inv w := by
    funext a
    match a with
    | ⟨0, _⟩ => exact Subsingleton.elim (α := Fin 1) _ _
    | ⟨1, _⟩ => rfl

/-- The columns a window ending at `j` reads are those up to `j`. -/
theorem sum_window (f : Fin 512 → EReal) (j : Fin 512) :
    ∑ q : Fin 512, (if h : 511 ≤ j.val + q.val then f ⟨j.val + q.val - 511, by omega⟩ else 0)
      = ∑ k, if k ≤ j then f k else 0 := by
  rw [← Finset.sum_filter]
  symm
  refine Finset.sum_bij_ne_zero (fun k hk _ => ⟨k.val + 511 - j.val, ?_⟩) ?_ ?_ ?_ ?_
  · have := Fin.le_def.mp (Finset.mem_filter.mp hk).2
    have := k.isLt
    omega
  · intro k hk _
    exact Finset.mem_univ _
  · intro k hk _ k' hk' _ h
    have h1 := Fin.le_def.mp (Finset.mem_filter.mp hk).2
    have h2 := Fin.le_def.mp (Finset.mem_filter.mp hk').2
    have h3 := Fin.val_eq_of_eq h
    have := j.isLt
    dsimp only at h3
    exact Fin.ext (by omega)
  · intro q _ hq
    by_cases h : 511 ≤ j.val + q.val
    · rw [dif_pos h] at hq
      have := q.isLt
      exact ⟨⟨j.val + q.val - 511, by omega⟩,
        Finset.mem_filter.mpr ⟨Finset.mem_univ _, Fin.le_def.mpr (by dsimp only; omega)⟩, hq,
        Fin.ext (by dsimp only; omega)⟩
    · exact absurd (dif_neg h) hq
  · intro k hk _
    have h1 := Fin.le_def.mp (Finset.mem_filter.mp hk).2
    have := j.isLt
    rw [dif_pos (by dsimp only; omega)]
    exact congrArg f (Fin.ext (by dsimp only; omega))

/-- The durations of batch `b`, as reals. -/
def dur (x : (⟨S8x512, .i32⟩ : BufTy).Contents (Elt Ideal)) (b : Fin 8) (k : Fin 512) : ℝ :=
  (x (ix2 b k)).toInt

variable (x : (⟨S8x512, .i32⟩ : BufTy).Contents (Elt Ideal))

/-- The windowed sum over each row is the row's running sum. -/
theorem cum_apply (b : Fin 8) (j : Fin 512) : val_main_v1 x (ix2 b j) = (cum (dur x b) j : EReal) := by
  have hz : val_main_call0_call0_v0 (F := Ideal) (Shape.Idx.first h_S_) = 0 := Ideal.ofBits_zero_f32
  unfold val_main_v1 Host.reduceWindowAdd
  rw [hz, Ideal.hostReduceWindowAdd_def, Ideal.hostReduceWindowAdd, Host.reduceWindow]
  dsimp only
  rw [foldl_add_eq_sum (n := (⟨2, ![1, 512]⟩ : Shape).numel)]
  refine (Equiv.sum_comp (windowEquiv.trans (⟨2, ![1, 512]⟩ : Shape).rowMajor) _).symm.trans ?_
  refine (Finset.sum_congr rfl fun q _ => ?_).trans ((sum_window (fun k => val_main_v0 x (ix2 b k)) j).trans ?_)
  · rw [Equiv.trans_apply]
    simp only [Equiv.symm_apply_apply]
    have hq := q.isLt
    have hb := b.isLt
    have hj := j.isLt
    by_cases h : 511 ≤ j.val + q.val
    · rw [dif_pos h, dif_pos (fun a => by
        match a with
        | ⟨0, _⟩ => exact ⟨Nat.zero_le _, show b.val * 1 + 0 - 0 < 8 by omega⟩
        | ⟨1, _⟩ => exact ⟨show 511 ≤ j.val * 1 + q.val by omega, show j.val * 1 + q.val - 511 < 512 by omega⟩)]
      refine congrArg (val_main_v0 x) (funext fun a => Fin.ext ?_)
      match a with
      | ⟨0, _⟩ => show b.val * 1 + 0 - 0 = b.val; omega
      | ⟨1, _⟩ => show j.val * 1 + q.val - 511 = j.val + q.val - 511; omega
    · rw [dif_neg h, dif_neg (fun hin => h (by
        have h1 : 511 ≤ j.val * 1 + q.val := (hin 1).1
        omega))]
  · rw [cum, ← coe_sum]
    refine Finset.sum_congr rfl fun k _ => ?_
    split
    · rw [mul_one]; rfl
    · rw [mul_zero]; rfl

/-! ## The first matrix -/

/-- The centres of the segments. -/
theorem centre_apply (b : Fin 8) (j : Fin 512) : val_main_v11 x (ix2 b j) = (centre (dur x b) j : EReal) := by
  have ht : val_main_v4 x (ix2 b 0) = (total (dur x b) : EReal) := by
    pointwise [val_main_v4, val_main_v3, val_main_v2, val_main_cst]
    rw [cum_apply]
    exact coe_max _ 1
  have hd : val_main_v0 x (ix2 b j) = (dur x b j : EReal) := rfl
  pointwise [val_main_v11, val_main_v10, val_main_v9, val_main_v8, val_main_v7, val_main_v6, val_main_v5,
    val_main_cst_0, val_main_cst_1]
  rw [cum_apply, ht, hd, word_half, word_512, ← EReal.coe_mul, ← EReal.coe_sub, div_coe_coe _ (total_pos _).ne',
    ← EReal.coe_mul, centre, mul_div_assoc', div_mul_eq_mul_div]

/-- The logits. -/
theorem logit_apply (b : Fin 8) (i j : Fin 512) : val_main_v23 x (ix3 b i j) = (logit (dur x b) i j : EReal) := by
  have hi : FloatOps.sitofp (F := Ideal) .f32 (BitVec.ofNat 32 i.val) = ((i.val : ℝ) : EReal) := sitofp_small i.isLt.le
  pointwise [val_main_v23, val_main_v22, val_main_v21, val_main_v20, val_main_v19, val_main_v18, val_main_v17,
    val_main_v16, val_main_v15, val_main_v14, val_main_v13, val_main_v12, val_main_cst_2, val_main_cst_3]
  rw [hi, centre_apply, word_half, word_512]
  simp only [← EReal.coe_add, ← EReal.coe_sub, ← EReal.coe_mul, ← EReal.coe_neg]
  rw [div_coe_coe _ (by norm_num), logit, zero_sub, mul_one_div]

/-- The host's maximum over the last axis, over any operand, as a fold over the columns. -/
theorem max_apply (w : FVec Ideal S8x512x512 .f32) (b : Fin 8) (i : Fin 512) :
    Host.reduce FloatOps.maximumf w (constant S_ .f32 0xFF800000#32) reducesTo_S8x512x512_S8x512_d2 h_S_ (ix2 b i)
      = Finset.univ.fold max (⊥ : EReal) fun k => w (ix3 b i k) := by
  pointwise
  rw [word_bot]

/-- The larger of minus infinity and any number is that number. -/
theorem maximumf_bot (r : Ideal .f32) :
    FloatOps.maximumf (F := Ideal) (φ := .f32) (⊥ : EReal) r = r := max_eq_right bot_le

/-- The largest logit of each row, as the row reduction gives it. -/
theorem largest_apply (b : Fin 8) (i : Fin 512) :
    val_main_v24 x (ix2 b i) = (top (logit (dur x b) i) : EReal) := by
  unfold val_main_v24 val_main_cst_4
  rw [max_apply, ← fold_top]
  exact congrArg (Finset.univ.fold max (⊥ : EReal)) (funext fun k => logit_apply x b i k)

/-- The largest logit of each row, after the comparison with minus infinity. -/
theorem top_apply (b : Fin 8) (i : Fin 512) :
    val_main_v26 x (ix2 b i) = (top (logit (dur x b) i) : EReal) := by
  have h : val_main_v25 (F := Ideal) (ix2 b i) = (⊥ : EReal) :=
    (val_main_v25_apply _).trans word_bot
  rw [val_main_v26_apply, h, largest_apply]
  exact maximumf_bot _

/-- The exponentials. -/
theorem expo_apply (b : Fin 8) (i j : Fin 512) : val_main_v30 x (ix3 b i j) = (expo (dur x b) i j : EReal) := by
  pointwise [val_main_v30, val_main_v29, val_main_v28, val_main_v27]
  rw [logit_apply, top_apply, ← EReal.coe_sub, Ideal.exp_coe]
  rfl

/-- The exponentials with each row divided by its sum. -/
theorem first_apply (b : Fin 8) (i j : Fin 512) :
    val_main_v34 x (ix3 b i j) = (norm eps (expo (dur x b)) 0 i j : EReal) := by
  have hp : 0 < ∑ k, expo (dur x b) i k := sum_pos_of (expo_pos _ i)
  pointwise [val_main_v34, val_main_v33, val_main_v32, val_main_v31, val_main_cst_6]
  simp only [expo_apply]
  rw [coe_sum, div_coe_coe _ hp.ne']
  rfl

/-! ## The rounds -/

/-- The columns of every batch divided by their sums. -/
def colRound (w : FVec Ideal S8x512x512 .f32) : FVec Ideal S8x512x512 .f32 :=
  Host.divf w (broadcastInDim S8x512x512 ![0, 1, 2] bcast_S8x1x512_S8x512x512_0_1_2
    (addf (broadcastInDim S8x1x512 ![0, 2] bcast_S8x512_S8x1x512_0_2
        (Host.reduceAdd w (constant S_ .f32 0x00000000#32) reducesTo_S8x512x512_S8x512_d1 h_S_))
      (broadcastInDim S8x1x512 ![] bcast_S_S8x1x512 (constant S_ .f32 0x322BCC77#32))))

/-- The rows of every batch divided by their sums. -/
def rowRound (w : FVec Ideal S8x512x512 .f32) : FVec Ideal S8x512x512 .f32 :=
  Host.divf w (broadcastInDim S8x512x512 ![0, 1, 2] bcast_S8x512x1_S8x512x512_0_1_2
    (addf (broadcastInDim S8x512x1 ![0, 1] bcast_S8x512_S8x512x1_0_1
        (Host.reduceAdd w (constant S_ .f32 0x00000000#32) reducesTo_S8x512x512_S8x512_d2 h_S_))
      (broadcastInDim S8x512x1 ![] bcast_S_S8x512x1 (constant S_ .f32 0x322BCC77#32))))

/-- The matrices after `n` rounds, from the first ones. -/
def rounds (w : FVec Ideal S8x512x512 .f32) : ℕ → FVec Ideal S8x512x512 .f32
  | 0 => w
  | n + 1 => rowRound (colRound (rounds w n))

/-- The reference's last matrices are the first ones after eight rounds. -/
theorem last_eq : val_main_v130 x = rounds (val_main_v34 x) 8 := rfl

/-- A column round of positive reals is the column normalisation. -/
theorem colRound_apply {w : FVec Ideal S8x512x512 .f32} {b : Fin 8} {W : Fin 512 → Fin 512 → ℝ} (hW : ∀ i j, 0 < W i j)
    (hw : ∀ i j, w (ix3 b i j) = (W i j : EReal)) (i j : Fin 512) :
    colRound w (ix3 b i j) = (colNorm eps W i j : EReal) := by
  pointwise [colRound]
  simp only [hw]
  rw [coe_sum, word_eps.1, ← EReal.coe_add,
    div_coe_coe _ (add_pos (sum_pos_of fun k => hW k j) word_eps.2).ne']
  rfl

/-- A row round of positive reals is the row normalisation. -/
theorem rowRound_apply {w : FVec Ideal S8x512x512 .f32} {b : Fin 8} {W : Fin 512 → Fin 512 → ℝ} (hW : ∀ i j, 0 < W i j)
    (hw : ∀ i j, w (ix3 b i j) = (W i j : EReal)) (i j : Fin 512) :
    rowRound w (ix3 b i j) = (rowNorm eps W i j : EReal) := by
  pointwise [rowRound]
  simp only [hw]
  rw [coe_sum, word_eps.1, ← EReal.coe_add,
    div_coe_coe _ (add_pos (sum_pos_of fun k => hW i k) word_eps.2).ne']
  rfl

/-- The matrices after `n` rounds are the normalised exponentials. -/
theorem rounds_apply (b : Fin 8) : ∀ n i j,
    rounds (val_main_v34 x) n (ix3 b i j) = (norm eps (expo (dur x b)) n i j : EReal)
  | 0 => first_apply x b
  | n + 1 =>
    have hp := norm_pos word_eps.2 (expo_pos (dur x b)) n
    rowRound_apply (colNorm_pos word_eps.2 hp) (colRound_apply hp (rounds_apply b n))

/-- One element of the reference's result: the normalised exponentials applied to the values. -/
theorem result_apply (y : (⟨S8x512x512, .f32⟩ : BufTy).Contents (Elt Ideal)) (b : Fin 8) (i c : Fin 512) :
    val_main_v131 y x (ix3 b i c) = ∑ j, ((norm eps (expo (dur x b)) 8 i j : ℝ) : EReal) * y (ix3 b j c) := by
  rw [val_main_v131_apply, last_eq]
  refine Finset.sum_congr rfl fun j _ => ?_
  have hl : lidx_main_v131 (ix3 b i c) j = ix3 b i j := by
    funext a
    match a with
    | ⟨0, _⟩ => rfl
    | ⟨1, _⟩ => rfl
    | ⟨2, _⟩ => rfl
  have hr : ridx_main_v131 (ix3 b i c) j = ix3 b j c := by
    funext a
    match a with
    | ⟨0, _⟩ => rfl
    | ⟨1, _⟩ => rfl
    | ⟨2, _⟩ => rfl
  rw [hl, hr, rounds_apply]

end Cert.ReferenceIdeal.Read
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelArray
public import proofs.«01_k».proof.Proof.RefRead
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's result array is the kernel's: both are the same weighted sums, index by index. -/
theorem result_eq (y : Vec Ideal Cert.KernelIdeal.S8x512x512 .f32) (x : Vec Ideal Cert.KernelIdeal.S8x512 .i32) :
    Cert.ReferenceIdeal.Read.val_main_v131 (F := Ideal) y x = Cert.KernelIdeal.Vocab.whole y x := by
  funext i
  have hi : i = ix3 (i 0) (i 1) (i 2) := by
    funext a
    match a with
    | ⟨0, _⟩ => rfl
    | ⟨1, _⟩ => rfl
    | ⟨2, _⟩ => rfl
  rw [hi]
  exact Cert.ReferenceIdeal.Read.result_apply x y (i 0) (i 1) (i 2)

/-- The kernel terminates, keeps its arguments and leaves every semaphore at zero. -/
theorem frame_kernel : Cert.quiescent_Kernel (hKernel := Cert.Kernel.Gen.facts) :=
  fun m ρ _ => Cert.Kernel.Gen.frame m ρ

/-- So does its reading over the extended reals. -/
theorem frame_ideal : Cert.quiescent_KernelIdeal (hKernelIdeal := Cert.KernelIdeal.Gen.facts) :=
  fun m ρ _ => Cert.KernelIdeal.Gen.frame m ρ

/-- So does the reference, which has no semaphore. -/
theorem frame_reference : Cert.quiescent_ReferenceIdeal (hReferenceIdeal := Cert.ReferenceIdeal.Gen.facts) :=
  fun m ρ _ => (θ_run _ _ _).mono
    (fun r h => ⟨fun c => (h c).2, sem_eq_zero_of_no_sems rfl r.2⟩) (Cert.ReferenceIdeal.Value.run m ρ)

/-- Kernel and reference end with equal results from equal arguments. -/
theorem results_equal : Cert.algebraic_KernelIdeal_ReferenceIdeal (hKernelIdeal := Cert.KernelIdeal.Gen.facts)
    (hReferenceIdeal := Cert.ReferenceIdeal.Gen.facts) := fun m g m' g' _ hargs =>
  ⟨fun c => Cert.KernelIdeal.Vocab.whole (m ((c.tc : Thread _ _).loc Cert.KernelIdeal.main_arg0))
      (m ((c.tc : Thread _ _).loc Cert.KernelIdeal.main_arg1)),
    (θ_run _ _ _).mono (fun r h c => ⟨(h c).1.trans (Cert.KernelIdeal.Vocab.final m c), (h c).2⟩)
      (Cert.KernelIdeal.Value.run_blocks m g),
    (θ_run _ _ _).mono (fun r h c => ⟨(h c).1.trans ((Cert.ReferenceIdeal.Read.val_main_v131_eq _).trans
      ((result_eq _ _).trans (congrArg₂ Cert.KernelIdeal.Vocab.whole (hargs c).1 (hargs c).2))), (h c).2⟩)
      (Cert.ReferenceIdeal.Value.run m' g')⟩

/-- All five claims. -/
theorem claim : Cert.Claim := ⟨Cert.Kernel.Gen.facts, Cert.KernelIdeal.Gen.facts, Cert.ReferenceIdeal.Gen.facts,
  frame_kernel, frame_ideal, frame_reference, trivial, results_equal⟩

end Cert.Proof

end
